-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x256 : Shape := ⟨2, ![131072, 256]⟩
abbrev S256x64 : Shape := ⟨2, ![256, 64]⟩
abbrev S64 : Shape := ⟨1, ![64]⟩
abbrev S65536x512 : Shape := ⟨2, ![65536, 512]⟩
abbrev S1x64 : Shape := ⟨2, ![1, 64]⟩
abbrev S8x64 : Shape := ⟨2, ![8, 64]⟩
abbrev S65536x128 : Shape := ⟨2, ![65536, 128]⟩
abbrev S64x8 : Shape := ⟨2, ![64, 8]⟩
abbrev S2048x512 : Shape := ⟨2, ![2048, 512]⟩
abbrev S2048x128 : Shape := ⟨2, ![2048, 128]⟩
abbrev S9x8x128 : Shape := ⟨3, ![9, 8, 128]⟩
abbrev S512x128 : Shape := ⟨2, ![512, 128]⟩
abbrev S8x128 : Shape := ⟨2, ![8, 128]⟩
abbrev S1x128 : Shape := ⟨2, ![1, 128]⟩
abbrev S1x8x128 : Shape := ⟨3, ![1, 8, 128]⟩
abbrev S256x8x128 : Shape := ⟨3, ![256, 8, 128]⟩
abbrev S9x128 : Shape := ⟨2, ![9, 128]⟩
abbrev S9x64 : Shape := ⟨2, ![9, 64]⟩
abbrev S512 : Shape := ⟨1, ![512]⟩
abbrev S131072x64 : Shape := ⟨2, ![131072, 64]⟩

abbrev nBuf : Space → Nat
  | .hbm => 11
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S256x64, .f32⟩
  | .hbm, ⟨2, _⟩ => ⟨S64, .f32⟩
  | .hbm, ⟨3, _⟩ => ⟨S64, .f32⟩
  | .hbm, ⟨4, _⟩ => ⟨S65536x512, .f32⟩
  | .hbm, ⟨5, _⟩ => ⟨S1x64, .f32⟩
  | .hbm, ⟨6, _⟩ => ⟨S8x64, .f32⟩
  | .hbm, ⟨7, _⟩ => ⟨S65536x128, .f32⟩
  | .hbm, ⟨8, _⟩ => ⟨S64x8, .f32⟩
  | .hbm, ⟨9, _⟩ => ⟨S512, .f32⟩
  | .hbm, ⟨10, _⟩ => ⟨S131072x64, .f32⟩
  | .local _ .vmem, ⟨0, _⟩ => ⟨S2048x512, .f32⟩
  | .local _ .vmem, ⟨1, _⟩ => ⟨S2048x512, .f32⟩
  | .local _ .vmem, ⟨2, _⟩ => ⟨S256x64, .f32⟩
  | .local _ .vmem, ⟨3, _⟩ => ⟨S8x64, .f32⟩
  | .local _ .vmem, ⟨4, _⟩ => ⟨S2048x128, .f32⟩
  | .local _ .vmem, ⟨5, _⟩ => ⟨S2048x128, .f32⟩
  | .local _ .vmem, ⟨6, _⟩ => ⟨S64x8, .f32⟩
  | .local _ .vmem, ⟨7, _⟩ => ⟨S9x8x128, .f32⟩
  | .local _ .vmem, ⟨8, _⟩ => ⟨S512x128, .f32⟩
  | .local _ .vmem, ⟨9, _⟩ => ⟨S8x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v121 : BitVec 1 := Scalar.cmpi .eq arg0 c31_i32
  let v122 : BitVec 32 := Scalar.extui v121
  let c0_i32_77 : BitVec 32 := 0#32
  let v123 : BitVec 1 := Scalar.cmpi .ne v122 c0_i32_77
  v123

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S131072x256 : Shape := ⟨2, ![131072, 256]⟩
abbrev S256x64 : Shape := ⟨2, ![256, 64]⟩
abbrev S64 : Shape := ⟨1, ![64]⟩
abbrev S131072x64 : Shape := ⟨2, ![131072, 64]⟩
abbrev S1x64 : Shape := ⟨2, ![1, 64]⟩
abbrev S_ : Shape := ⟨0, ![]⟩
abbrev S8 : Shape := ⟨1, ![8]⟩
abbrev S131072x64x1 : Shape := ⟨3, ![131072, 64, 1]⟩
abbrev S1x1x8 : Shape := ⟨3, ![1, 1, 8]⟩
abbrev S131072x64x8 : Shape := ⟨3, ![131072, 64, 8]⟩
abbrev S64x8 : Shape := ⟨2, ![64, 8]⟩
abbrev S64x1 : Shape := ⟨2, ![64, 1]⟩
abbrev S512 : Shape := ⟨1, ![512]⟩

abbrev nBuf : Space → Nat
  | .hbm => 72
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x64, .f32⟩
  | .hbm, ⟨2, _⟩ => ⟨S64, .f32⟩
  | .hbm, ⟨3, _⟩ => ⟨S64, .f32⟩
  | .hbm, ⟨4, _⟩ => ⟨S131072x64, .f32⟩
  | .hbm, ⟨5, _⟩ => ⟨S1x64, .f32⟩
  | .hbm, ⟨6, _⟩ => ⟨S131072x64, .f32⟩
  | .hbm, ⟨7, _⟩ => ⟨S131072x64, .f32⟩
  | .hbm, ⟨8, _⟩ => ⟨S131072x64, .f32⟩
  | .hbm, ⟨9, _⟩ => ⟨S131072x64, .f32⟩
  | .hbm, ⟨10, _⟩ => ⟨S_, .f32⟩
  | .hbm, ⟨11, _⟩ => ⟨S131072x64, .f32⟩
  | .hbm, ⟨12, _⟩ => ⟨S131072x64, .f32⟩
  | .hbm, ⟨13, _⟩ => ⟨S_, .f32⟩
  | .hbm, ⟨14, _⟩ => ⟨S131072x64, .f32⟩
  | .hbm, ⟨15, _⟩ => ⟨S131072x64, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S131072x64x1, .f32⟩
  | .hbm, ⟨24, _⟩ => ⟨S1x1x8, .f32⟩
  | .hbm, ⟨25, _⟩ => ⟨S131072x64x8, .f32⟩
  | .hbm, ⟨26, _⟩ => ⟨S131072x64x8, .f32⟩
  | .hbm, ⟨27, _⟩ => ⟨S131072x64x8, .f32⟩
  | .hbm, ⟨28, _⟩ => ⟨S_, .f32⟩
  | .hbm, ⟨29, _⟩ => ⟨S131072x64x8, .f32⟩
  | .hbm, ⟨30, _⟩ => ⟨S131072x64x8, .f32⟩
  | .hbm, ⟨31, _⟩ => ⟨S_, .f32⟩
  | .hbm, ⟨32, _⟩ => ⟨S131072x64x8, .f32⟩
  | .hbm, ⟨33, _⟩ => ⟨S131072x64x8, .f32⟩
  | .hbm, ⟨34, _⟩ => ⟨S131072x64x8, .f32⟩
  | .hbm, ⟨35, _⟩ => ⟨S131072x64x8, .f32⟩
  | .hbm, ⟨36, _⟩ => ⟨S_, .f32⟩
  | .hbm, ⟨37, _⟩ => ⟨S131072x64x8, .f32⟩
  | .hbm, ⟨38, _⟩ => ⟨S131072x64x8, .f32⟩
  | .hbm, ⟨39, _⟩ => ⟨S_, .f32⟩
  | .hbm, ⟨40, _⟩ => ⟨S131072x64x8, .f32⟩
  | .hbm, ⟨41, _⟩ => ⟨S131072x64x8, .f32⟩
  | .hbm, ⟨42, _⟩ => ⟨S_, .f32⟩
  | .hbm, ⟨43, _⟩ => ⟨S131072x64x8, .f32⟩
  | .hbm, ⟨44, _⟩ => ⟨S131072x64x8, .f32⟩
  | .hbm, ⟨45, _⟩ => ⟨S_, .f32⟩
  | .hbm, ⟨46, _⟩ => ⟨S131072x64x8, .f32⟩
  | .hbm, ⟨47, _⟩ => ⟨S131072x64x8, .f32⟩
  | .hbm, ⟨48, _⟩ => ⟨S131072x64x8, .f32⟩
  | .hbm, ⟨49, _⟩ => ⟨S131072x64x8, .f32⟩
  | .hbm, ⟨50, _⟩ => ⟨S_, .f32⟩
  | .hbm, ⟨51, _⟩ => ⟨S131072x64x8, .f32⟩
  | .hbm, ⟨52, _⟩ => ⟨S131072x64x8, .f32⟩
  | .hbm, ⟨53, _⟩ => ⟨S_, .f32⟩
  | .hbm, ⟨54, _⟩ => ⟨S131072x64x8, .f32⟩
  | .hbm, ⟨55, _⟩ => ⟨S131072x64x8, .f32⟩
  | .hbm, ⟨56, _⟩ => ⟨S131072x64x8, .f32⟩
  | .hbm, ⟨57, _⟩ => ⟨S_, .f32⟩
  | .hbm, ⟨58, _⟩ => ⟨S64x8, .f32⟩
  | .hbm, ⟨59, _⟩ => ⟨S_, .f32⟩
  | .hbm, ⟨60, _⟩ => ⟨S64x8, .f32⟩
  | .hbm, ⟨61, _⟩ => ⟨S64x8, .f32⟩
  | .hbm, ⟨62, _⟩ => ⟨S_, .f32⟩
  | .hbm, ⟨63, _⟩ => ⟨S64, .f32⟩
  | .hbm, ⟨64, _⟩ => ⟨S64x1, .f32⟩
  | .hbm, ⟨65, _⟩ => ⟨S_, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S64x8, .f32⟩
  | .hbm, ⟨70, _⟩ => ⟨S64x8, .f32⟩
  | .hbm, ⟨71, _⟩ => ⟨S512, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_call0_v0 : Ref sig .tc := ⟨.hbm, 66, rfl⟩
abbrev main_call0_v1 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.Scalar.lean ====
/- The extended-real functions and the literals that both programs use. -/
module

public import Idealize.ShloMosaic.PureOps.Ideal

@[expose] public section

noncomputable section

open Idealize.ShloMosaic

namespace Cert.Hist

/-- The tanh of an extended real, as a real number. -/
def th (x : EReal) : ℝ := (Ideal.tanh x).toReal

/-- At minus infinity tanh is minus one. -/
theorem th_bot : th ⊥ = -1 := by rw [th, Ideal.tanh_bot]; rfl
/-- At plus infinity tanh is one. -/
theorem th_top : th ⊤ = 1 := by rw [th, Ideal.tanh_top]; rfl
/-- At a real number tanh is the real function. -/
theorem th_coe (r : ℝ) : th r = Real.tanh r := by rw [th, Ideal.tanh_coe, EReal.toReal_coe]

/-- The tanh of an extended real is a real number, also at the infinities. -/
theorem tanh_eq (x : EReal) : Ideal.tanh x = ((th x : ℝ) : EReal) := by
  induction x using EReal.rec with
  | bot => rw [th_bot, Ideal.tanh_bot]; rfl
  | top => rw [th_top, Ideal.tanh_top]; rfl
  | coe r => rw [th_coe, Ideal.tanh_coe]

/-- The logistic function of a real number by tanh at half the argument. -/
theorem logistic_real (r : ℝ) : (1 + Real.exp (-r))⁻¹ = 1 / 2 * Real.tanh (1 / 2 * r) + 1 / 2 := by
  have h : Real.exp (1 / 2 * r) ≠ 0 := (Real.exp_pos _).ne'
  have e : Real.exp (-r) = (Real.exp (1 / 2 * r) * Real.exp (1 / 2 * r))⁻¹ := by
    rw [← Real.exp_add, ← Real.exp_neg]; congr 1; ring
  rw [Real.tanh_eq_sinh_div_cosh, Real.sinh_eq, Real.cosh_eq, e, Real.exp_neg]
  field_simp
  ring

/-- `1 / (1 + exp (-x))` is `½ tanh (½ x) + ½` at every extended real. -/
theorem logistic_eq (x : EReal) :
    Ideal.logistic x = ((1 / 2 * th (((1 / 2 : ℝ) : EReal) * x) + 1 / 2 : ℝ) : EReal) := by
  induction x using EReal.rec with
  | bot =>
    rw [EReal.coe_mul_bot_of_pos (by norm_num), Ideal.logistic_bot, th_bot]; norm_num
  | top =>
    rw [EReal.coe_mul_top_of_pos (by norm_num), Ideal.logistic_top, th_top]; norm_num
  | coe r =>
    rw [← EReal.coe_mul, th_coe, Ideal.logistic_coe, logistic_real]

/-- A sum of real numbers, read as an extended real, is the sum of the extended reals. -/
theorem coe_sum {ι : Type} [Fintype ι] (f : ι → ℝ) : ((∑ i, f i : ℝ) : EReal) = ∑ i, ((f i : ℝ) : EReal) := by
  classical
  induction (Finset.univ : Finset ι) using Finset.induction_on with
  | empty => simp
  | insert i s hi ih => rw [Finset.sum_insert hi, Finset.sum_insert hi, EReal.coe_add, ih]

/-! ## The literals -/

/-- The literal `0x00000000` is 0. -/
theorem lit_zero : Ideal.ofBits .f32 0x00000000#32 = ((0 : ℝ) : EReal) := by
  simp [Ideal.ofBits, Ideal.ieee, -EReal.coe_mul]
/-- The literal `0x3F000000` is 1 / 2. -/
theorem lit_half : Ideal.ofBits .f32 0x3F000000#32 = ((1 / 2 : ℝ) : EReal) := by
  simp [Ideal.ofBits, Ideal.ieee, -EReal.coe_mul]; norm_num
/-- The literal `0x42480000` is 50. -/
theorem lit_fifty : Ideal.ofBits .f32 0x42480000#32 = ((50 : ℝ) : EReal) := by
  simp [Ideal.ofBits, Ideal.ieee, -EReal.coe_mul]; norm_num
/-- The literal `0x41480000` is 25 / 2. -/
theorem lit_edge1 : Ideal.ofBits .f32 0x41480000#32 = ((25 / 2 : ℝ) : EReal) := by
  simp [Ideal.ofBits, Ideal.ieee, -EReal.coe_mul]; norm_num
/-- The literal `0x41C80000` is 25. -/
theorem lit_edge2 : Ideal.ofBits .f32 0x41C80000#32 = ((25 : ℝ) : EReal) := by
  simp [Ideal.ofBits, Ideal.ieee, -EReal.coe_mul]; norm_num
/-- The literal `0x42160000` is 75 / 2. -/
theorem lit_edge3 : Ideal.ofBits .f32 0x42160000#32 = ((75 / 2 : ℝ) : EReal) := by
  simp [Ideal.ofBits, Ideal.ieee, -EReal.coe_mul]; norm_num
/-- The literal `0x427A0000` is 125 / 2. -/
theorem lit_edge5 : Ideal.ofBits .f32 0x427A0000#32 = ((125 / 2 : ℝ) : EReal) := by
  simp [Ideal.ofBits, Ideal.ieee, -EReal.coe_mul]; norm_num
/-- The literal `0x42960000` is 75. -/
theorem lit_edge6 : Ideal.ofBits .f32 0x42960000#32 = ((75 : ℝ) : EReal) := by
  simp [Ideal.ofBits, Ideal.ieee, -EReal.coe_mul]; norm_num
/-- The literal `0x42AF0000` is 175 / 2. -/
theorem lit_edge7 : Ideal.ofBits .f32 0x42AF0000#32 = ((175 / 2 : ℝ) : EReal) := by
  simp [Ideal.ofBits, Ideal.ieee, -EReal.coe_mul]; norm_num
/-- The literal `0x42C80000` is 100. -/
theorem lit_edge8 : Ideal.ofBits .f32 0x42C80000#32 = ((100 : ℝ) : EReal) := by
  simp [Ideal.ofBits, Ideal.ieee, -EReal.coe_mul]; norm_num
/-- The literal `0x36800000` is 1 / 262144. -/
theorem lit_scale : Ideal.ofBits .f32 0x36800000#32 = ((1 / 262144 : ℝ) : EReal) := by
  simp [Ideal.ofBits, Ideal.ieee, -EReal.coe_mul]; norm_num
/-- The literal `0x3F800000` is 1. -/
theorem lit_one : Ideal.ofBits .f32 0x3F800000#32 = ((1 : ℝ) : EReal) := by
  simp [Ideal.ofBits, Ideal.ieee, -EReal.coe_mul]; norm_num
/-- The literal `0x3D800000` is 1 / 16. -/
theorem lit_sixteenth : Ideal.ofBits .f32 0x3D800000#32 = ((1 / 16 : ℝ) : EReal) := by
  simp [Ideal.ofBits, Ideal.ieee, -EReal.coe_mul]; norm_num
/-- The literal `0x41000000` is 8. -/
theorem lit_eight : Ideal.ofBits .f32 0x41000000#32 = ((8 : ℝ) : EReal) := by
  simp [Ideal.ofBits, Ideal.ieee, -EReal.coe_mul]; norm_num
/-- The literal `0x43480000` is 200. -/
theorem lit_sharp : Ideal.ofBits .f32 0x43480000#32 = ((200 : ℝ) : EReal) := by
  simp [Ideal.ofBits, Ideal.ieee, -EReal.coe_mul]; norm_num
/-- The literal `0x48000000` is 131072. -/
theorem lit_count : Ideal.ofBits .f32 0x48000000#32 = ((131072 : ℝ) : EReal) := by
  simp [Ideal.ofBits, Ideal.ieee, -EReal.coe_mul]; norm_num

end Cert.Hist
-- ==== Proof.Body.lean ====
/- What one grid point computes, as functions of the blocks it reads: the hyperbolic tangent of the half
   pre-activation, the stored activations, and one update of the nine accumulator slabs. -/
module

public import proofs.«01_k».proof.Proof.Gen.KernelIdeal.Frame
public import proofs.«01_k».proof.Proof.Scalar
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

/-- The tanh of half the pre-activation at row `r` and lane `l` of a block: rows `x`, packed weights `w`, packed
    bias row `b`. -/
def tau (x : Vec Ideal S2048x512 .f32) (w : Vec Ideal S512x128 .f32) (b : Vec Ideal S1x128 .f32)
    (r : Fin 2048) (l : Fin 128) : ℝ :=
  th (((1 / 2 : ℝ) : EReal) * ((∑ j : Fin 512, x (ix2 r j) * w (ix2 j l)) + b (ix2 0 l)))

/-- The body's first value is `tau`. -/
theorem pay10_apply (x : Vec Ideal S2048x512 .f32) (w : Vec Ideal S512x128 .f32) (b : Vec Ideal S1x128 .f32)
    (y : S2048x128.Idx) : k0_pay10 x w b y = ((tau x w b (y 0) (y 1) : ℝ) : EReal) := by
  unfold k0_pay10
  pointwise
  rw [lit_half, tanh_eq]
  rfl

/-- The stored activations are `½ tau + ½`. -/
theorem pay11_apply (x : Vec Ideal S2048x512 .f32) (w : Vec Ideal S512x128 .f32) (b : Vec Ideal S1x128 .f32)
    (y : S2048x128.Idx) : k0_pay11 x w b y = ((1 / 2 * tau x w b (y 0) (y 1) + 1 / 2 : ℝ) : EReal) := by
  unfold k0_pay11
  pointwise
  rw [pay10_apply, lit_half, ← EReal.coe_mul, ← EReal.coe_add]

/-- The scaled activations are `50 tau + 50`. -/
theorem pay12_apply (x : Vec Ideal S2048x512 .f32) (w : Vec Ideal S512x128 .f32) (b : Vec Ideal S1x128 .f32)
    (y : S2048x128.Idx) : k0_pay12 x w b y = ((50 * tau x w b (y 0) (y 1) + 50 : ℝ) : EReal) := by
  unfold k0_pay12
  pointwise
  rw [pay10_apply, lit_fifty, ← EReal.coe_mul, ← EReal.coe_add]

/-- One slab's update with edge constant `e`: the slab plus the block's tangents summed over its 256 groups of rows. -/
def slab (e : Ideal .f32) (v : FVec Ideal S2048x128 .f32) (a : Vec Ideal S1x8x128 .f32) : FVec Ideal S1x8x128 .f32 :=
  shapeCast S1x8x128
    (addf (shapeCast S8x128 a shapeCasts_S1x8x128_S8x128)
      (multiReduction .add [0] S8x128
        (shapeCast S256x8x128 (tanh (subf v (broadcast S2048x128 e))) shapeCasts_S2048x128_S256x8x128)
        0x00000000#32 reduces_S256x8x128_S8x128 (.inl rfl) rfl))
    shapeCasts_S8x128_S1x8x128

/-- The row of a block at group `q`, sublane `s`. -/
def row (q : Fin 256) (s : Fin 8) : Fin 2048 := ⟨q.val * 8 + s.val, by omega⟩

/-- One slab's update at an index, for a real edge constant. -/
theorem slab_apply (e : ℝ) (x : Vec Ideal S2048x512 .f32) (w : Vec Ideal S512x128 .f32) (b : Vec Ideal S1x128 .f32)
    (a : Vec Ideal S1x8x128 .f32) (y : S1x8x128.Idx) :
    slab ((e : ℝ) : EReal) (k0_pay12 x w b) a y
      = a y + ((∑ q : Fin 256, Real.tanh (50 * tau x w b (row q (y 1)) (y 2) + 50 - e) : ℝ) : EReal) := by
  unfold slab
  pointwise
  rw [coe_sum]
  congr 1
  refine Finset.sum_congr rfl fun q _ => ?_
  rw [pay12_apply, ← EReal.coe_sub, Ideal.tanh_coe]
  rfl

/-- The nine stores of a grid point into the accumulator, last first, over the slabs `a` loaded before. -/
def pieces (x : Vec Ideal S2048x512 .f32) (w : Vec Ideal S512x128 .f32) (b : Vec Ideal S1x128 .f32)
    (a : Vec Ideal S9x8x128 .f32) : List (View.Piece (Elt Ideal) S9x8x128 .f32) :=
  [⟨Rect.unit ![8, 0, 0] ![1, 8, 128] inb_S9x8x128_S1x8x128_8_0_0, k0_pay2 (k0_pay12 x w b)
      (View.ld a (Rect.unit ![8, 0, 0] ![1, 8, 128] inb_S9x8x128_S1x8x128_8_0_0))⟩,
   ⟨Rect.unit ![7, 0, 0] ![1, 8, 128] inb_S9x8x128_S1x8x128_7_0_0, k0_pay1 (k0_pay12 x w b)
      (View.ld a (Rect.unit ![7, 0, 0] ![1, 8, 128] inb_S9x8x128_S1x8x128_7_0_0))⟩,
   ⟨Rect.unit ![6, 0, 0] ![1, 8, 128] inb_S9x8x128_S1x8x128_6_0_0, k0_pay19 (k0_pay12 x w b)
      (View.ld a (Rect.unit ![6, 0, 0] ![1, 8, 128] inb_S9x8x128_S1x8x128_6_0_0))⟩,
   ⟨Rect.unit ![5, 0, 0] ![1, 8, 128] inb_S9x8x128_S1x8x128_5_0_0, k0_pay18 (k0_pay12 x w b)
      (View.ld a (Rect.unit ![5, 0, 0] ![1, 8, 128] inb_S9x8x128_S1x8x128_5_0_0))⟩,
   ⟨Rect.unit ![4, 0, 0] ![1, 8, 128] inb_S9x8x128_S1x8x128_4_0_0, k0_pay17 (k0_pay12 x w b)
      (View.ld a (Rect.unit ![4, 0, 0] ![1, 8, 128] inb_S9x8x128_S1x8x128_4_0_0))⟩,
   ⟨Rect.unit ![3, 0, 0] ![1, 8, 128] inb_S9x8x128_S1x8x128_3_0_0, k0_pay16 (k0_pay12 x w b)
      (View.ld a (Rect.unit ![3, 0, 0] ![1, 8, 128] inb_S9x8x128_S1x8x128_3_0_0))⟩,
   ⟨Rect.unit ![2, 0, 0] ![1, 8, 128] inb_S9x8x128_S1x8x128_2_0_0, k0_pay15 (k0_pay12 x w b)
      (View.ld a (Rect.unit ![2, 0, 0] ![1, 8, 128] inb_S9x8x128_S1x8x128_2_0_0))⟩,
   ⟨Rect.unit ![1, 0, 0] ![1, 8, 128] inb_S9x8x128_S1x8x128_1_0_0, k0_pay14 (k0_pay12 x w b)
      (View.ld a (Rect.unit ![1, 0, 0] ![1, 8, 128] inb_S9x8x128_S1x8x128_1_0_0))⟩,
   ⟨Rect.unit ![0, 0, 0] ![1, 8, 128] inb_S9x8x128_S1x8x128_0_0_0, k0_pay13 x w b
      (View.ld a (Rect.unit ![0, 0, 0] ![1, 8, 128] inb_S9x8x128_S1x8x128_0_0_0))⟩]

/-- What the nine stores of a grid point leave in the accumulator that held `a`, as a closed form: at edge number
    `y 0`, the place's old value plus the sum of the tangents of the point's rows that fall on it. -/
def added (x : Vec Ideal S2048x512 .f32) (w : Vec Ideal S512x128 .f32) (b : Vec Ideal S1x128 .f32)
    (a : Vec Ideal S9x8x128 .f32) (y : S9x8x128.Idx) : EReal :=
  a y + ((∑ q : Fin 256,
    Real.tanh (50 * tau x w b (row q (y 1)) (y 2) + 50 - 25 / 2 * ((y 0).val : ℝ)) : ℝ) : EReal)

/-- The value stored into slab `k` is the closed form at the place that it is stored to. -/
theorem slab_at (k : ℕ) (e : Ideal .f32) (he : e = ((25 / 2 * (k : ℝ) : ℝ) : EReal)) (x : Vec Ideal S2048x512 .f32)
    (w : Vec Ideal S512x128 .f32) (b : Vec Ideal S1x128 .f32) (a : Vec Ideal S9x8x128 .f32)
    (inb : ∀ i, (![k, 0, 0] : Fin 3 → ℕ) i + S1x8x128.size i ≤ S9x8x128.size i) (z : S1x8x128.Idx) :
    slab e (k0_pay12 x w b) (View.ld a (Rect.unit ![k, 0, 0] S1x8x128.size inb)) z
      = added x w b a ((Rect.unit (s := S9x8x128) ![k, 0, 0] S1x8x128.size inb).emb z) := by
  have hz : (z 0).val < 1 := (z 0).isLt
  have e0 : ((Rect.unit (s := S9x8x128) ![k, 0, 0] S1x8x128.size inb).emb z 0).val = k := by
    show k + 1 * (z 0).val = k; omega
  have e1 : (Rect.unit (s := S9x8x128) ![k, 0, 0] S1x8x128.size inb).emb z 1 = z 1 :=
    Fin.ext (by show 0 + 1 * (z 1).val = (z 1).val; omega)
  have e2 : (Rect.unit (s := S9x8x128) ![k, 0, 0] S1x8x128.size inb).emb z 2 = z 2 :=
    Fin.ext (by show 0 + 1 * (z 2).val = (z 2).val; omega)
  rw [he, slab_apply, added, e0, e1, e2]
  rfl

/-- What the nine stores leave in the accumulator, whatever was stored there before them. -/
theorem pieces_apply (x : Vec Ideal S2048x512 .f32) (w : Vec Ideal S512x128 .f32) (b : Vec Ideal S1x128 .f32)
    (a : Vec Ideal S9x8x128 .f32) (L : List (View.Piece (Elt Ideal) S9x8x128 .f32)) (y : S9x8x128.Idx) :
    View.canon (pieces x w b a ++ L) y = added x w b a y := by
  have h : View.PiecesOf (added x w b a) (pieces x w b a) := by
    refine ⟨?_, ?_, ?_, ?_, ?_, ?_, ?_, ?_, ?_, trivial⟩ <;> intro z
    · exact slab_at 8 (Ideal.ofBits .f32 0x42C80000#32) (by rw [lit_edge8]; norm_num) x w b a _ z
    · exact slab_at 7 (Ideal.ofBits .f32 0x42AF0000#32) (by rw [lit_edge7]; norm_num) x w b a _ z
    · exact slab_at 6 (Ideal.ofBits .f32 0x42960000#32) (by rw [lit_edge6]; norm_num) x w b a _ z
    · exact slab_at 5 (Ideal.ofBits .f32 0x427A0000#32) (by rw [lit_edge5]; norm_num) x w b a _ z
    · exact slab_at 4 (Ideal.ofBits .f32 0x42480000#32) (by rw [lit_fifty]; norm_num) x w b a _ z
    · exact slab_at 3 (Ideal.ofBits .f32 0x42160000#32) (by rw [lit_edge3]; norm_num) x w b a _ z
    · exact slab_at 2 (Ideal.ofBits .f32 0x41C80000#32) (by rw [lit_edge2]; norm_num) x w b a _ z
    · exact slab_at 1 (Ideal.ofBits .f32 0x41480000#32) (by rw [lit_edge1]; norm_num) x w b a _ z
    · exact slab_at 0 (Ideal.ofBits .f32 0x00000000#32) (by rw [lit_zero]; norm_num) x w b a _ z
  exact View.canon_append_of_piecesOf (added x w b a) L (pieces x w b a) h y
    (View.cover_of_tiledL (pieces x w b a) S1x8x128.size (by sl_kernel_rfl) y)

end Cert.KernelIdeal.Work
-- ==== Proof.Pack.lean ====
/- The packed weights and the packed bias: what the first grid point's stores leave in the two scratch buffers that
   the later points keep. The packed weights are block diagonal, two copies of the weights with zeros elsewhere;
   the packed bias is the bias twice along the lanes. -/
module

public import proofs.«01_k».proof.Proof.Body

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

/-- Inside the rectangle of the last store, the stores' result is the stored value. -/
theorem canon_inside {s : Shape} {e : EltTy} (off size : Fin s.rank → ℕ) (inb : ∀ a, off a + size a ≤ s.size a)
    (v : (Rect.unit off size inb).shape.Idx → Elt Ideal e) (L : List (View.Piece (Elt Ideal) s e)) (y : s.Idx)
    (z : (Rect.unit off size inb).shape.Idx) (h : ∀ a, (y a).val = off a + 1 * (z a).val) :
    View.canon (⟨Rect.unit off size inb, v⟩ :: L) y = v z := by
  have e : y = (Rect.unit off size inb).emb z := funext fun a => Fin.ext (h a)
  rw [e, View.canon_cons_emb]

/-- Outside the rectangle of the last store, the stores' result is that of the earlier stores. -/
theorem canon_outside {s : Shape} {e : EltTy} (off size : Fin s.rank → ℕ) (inb : ∀ a, off a + size a ≤ s.size a)
    (v : (Rect.unit off size inb).shape.Idx → Elt Ideal e) (L : List (View.Piece (Elt Ideal) s e)) (y : s.Idx)
    (h : ∃ a, (y a).val < off a ∨ off a + size a ≤ (y a).val) :
    View.canon (⟨Rect.unit off size inb, v⟩ :: L) y = View.canon L y := by
  refine View.canon_cons_of_not_mem _ L ?_
  rw [Rect.mem_set_unit]
  intro hm
  obtain ⟨a, ha⟩ := h
  have := hm a
  omega

/-- The packed weights left by the first point's three stores. -/
def packW (w : Vec Ideal S256x64 .f32) : Vec Ideal S512x128 .f32 :=
  View.canon [⟨Rect.unit ![256, 64] ![256, 64] inb_S512x128_S256x64_256_64, k0_pay7 w⟩,
    ⟨Rect.unit ![0, 0] ![256, 64] inb_S512x128_S256x64_0_0, k0_pay6 w⟩,
    ⟨Rect.unit ![0, 0] ![512, 128] inb_S512x128_S512x128_0_0, k0_pay5 (F := Ideal)⟩]

/-- The upper left block of the packed weights is the weights. -/
theorem packW_left (w : Vec Ideal S256x64 .f32) (j : Fin 512) (l : Fin 128) (hj : j.val < 256) (hl : l.val < 64) :
    packW w (ix2 j l) = w (ix2 ⟨j.val, hj⟩ ⟨l.val, hl⟩) := by
  unfold packW
  rw [canon_outside _ _ _ _ _ _ ⟨0, .inl (by show j.val < 256; exact hj)⟩,
    canon_inside _ _ _ _ _ _ (ix2 ⟨j.val, hj⟩ ⟨l.val, hl⟩) (fun a => by
      match a with
      | ⟨0, _⟩ => show j.val = 0 + 1 * j.val; omega
      | ⟨1, _⟩ => show l.val = 0 + 1 * l.val; omega)]
  unfold k0_pay6
  pointwise

/-- The lower right block of the packed weights is the weights. -/
theorem packW_right (w : Vec Ideal S256x64 .f32) (j : Fin 512) (l : Fin 128) (hj : 256 ≤ j.val) (hl : 64 ≤ l.val) :
    packW w (ix2 j l) = w (ix2 ⟨j.val - 256, by omega⟩ ⟨l.val - 64, by omega⟩) := by
  unfold packW
  rw [canon_inside _ _ _ _ _ _ (ix2 ⟨j.val - 256, by omega⟩ ⟨l.val - 64, by omega⟩) (fun a => by
      match a with
      | ⟨0, _⟩ => show j.val = 256 + 1 * (j.val - 256); omega
      | ⟨1, _⟩ => show l.val = 64 + 1 * (l.val - 64); omega)]
  unfold k0_pay7
  pointwise

/-- The two other blocks of the packed weights are zero. -/
theorem packW_zero (w : Vec Ideal S256x64 .f32) (j : Fin 512) (l : Fin 128)
    (h : j.val < 256 ∧ 64 ≤ l.val ∨ 256 ≤ j.val ∧ l.val < 64) : packW w (ix2 j l) = 0 := by
  unfold packW
  rw [canon_outside _ _ _ _ _ _ (by
      rcases h with ⟨h, _⟩ | ⟨_, h⟩
      · exact ⟨0, .inl (by show j.val < 256; exact h)⟩
      · exact ⟨1, .inl (by show l.val < 64; exact h)⟩),
    canon_outside _ _ _ _ _ _ (by
      rcases h with ⟨_, h⟩ | ⟨h, _⟩
      · exact ⟨1, .inr (by show 0 + 64 ≤ l.val; omega)⟩
      · exact ⟨0, .inr (by show 0 + 256 ≤ j.val; omega)⟩),
    canon_inside _ _ _ _ _ _ (ix2 j l) (fun a => by
      match a with
      | ⟨0, _⟩ => show j.val = 0 + 1 * j.val; omega
      | ⟨1, _⟩ => show l.val = 0 + 1 * l.val; omega)]
  unfold k0_pay5
  pointwise

/-- The packed bias left by the first point's two stores. -/
def packB (b : Vec Ideal S8x64 .f32) : Vec Ideal S8x128 .f32 :=
  View.canon [⟨Rect.unit ![0, 64] ![8, 64] inb_S8x128_S8x64_0_64, k0_pay9 b⟩,
    ⟨Rect.unit ![0, 0] ![8, 64] inb_S8x128_S8x64_0_0, k0_pay8 b⟩]

/-- The packed bias at a lane is the bias at the lane's column. -/
theorem packB_apply (b : Vec Ideal S8x64 .f32) (s : Fin 8) (l : Fin 128) :
    packB b (ix2 s l) = b (ix2 s ⟨l.val % 64, by omega⟩) := by
  unfold packB
  by_cases hl : l.val < 64
  · rw [canon_outside _ _ _ _ _ _ ⟨1, .inl (by show l.val < 64; exact hl)⟩,
      canon_inside _ _ _ _ _ _ (ix2 s ⟨l.val % 64, by omega⟩) (fun a => by
        match a with
        | ⟨0, _⟩ => show s.val = 0 + 1 * s.val; omega
        | ⟨1, _⟩ => show l.val = 0 + 1 * (l.val % 64); omega)]
    unfold k0_pay8
    pointwise
  · rw [canon_inside _ _ _ _ _ _ (ix2 s ⟨l.val % 64, by omega⟩) (fun a => by
        match a with
        | ⟨0, _⟩ => show s.val = 0 + 1 * s.val; omega
        | ⟨1, _⟩ => show l.val = 64 + 1 * (l.val % 64); omega)]
    unfold k0_pay9
    pointwise

/-- The row of the packed bias that every point loads. -/
def biasRow (b : Vec Ideal S8x128 .f32) : Vec Ideal S1x128 .f32 :=
  View.ld b (Rect.unit ![0, 0] ![1, 128] inb_S8x128_S1x128_0_0)

/-- The loaded row of the packed bias at a lane. -/
theorem biasRow_apply (b : Vec Ideal S8x64 .f32) (l : Fin 128) :
    biasRow (packB b) (ix2 0 l) = b (ix2 0 ⟨l.val % 64, by omega⟩) := by
  rw [← packB_apply b 0 l]
  refine congrArg (packB b) (funext fun a => Fin.ext ?_)
  match a with
  | ⟨0, _⟩ => rfl
  | ⟨1, _⟩ => show 0 + 1 * l.val = l.val; omega

end Cert.KernelIdeal.Work
-- ==== Proof.Outs.lean ====
/- What the buffers hold after each grid point, case by case: the first point packs the weights and the bias, and
   adds into zero slabs; the others keep the packed arrays and add into what the point before left; the last one
   also stores the histogram. -/
module

public import proofs.«01_k».proof.Proof.Pack

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

variable (m : (ℓ : Loc nD τ sig) → Buf (Elt Ideal) ℓ)

/-- The accumulator after point `t`. -/
abbrev accAt (c : Dev nD) (n : ℕ) (h : n < cfg0.N) : Vec Ideal S9x8x128 .f32 := (outsAt0 m c n h).2.2.1
/-- The packed weights after point `t`. -/
abbrev wAt (c : Dev nD) (n : ℕ) (h : n < cfg0.N) : Vec Ideal S512x128 .f32 := (outsAt0 m c n h).2.2.2.1
/-- The packed bias after point `t`. -/
abbrev bAt (c : Dev nD) (n : ℕ) (h : n < cfg0.N) : Vec Ideal S8x128 .f32 := (outsAt0 m c n h).2.2.2.2

/-- The point before a point is a point. -/
theorem pred_lt (t : Fin cfg0.N) : t.val - 1 < cfg0.N := Nat.lt_of_le_of_lt (Nat.sub_le _ _) t.isLt

/-! ## The first point -/

/-- After the first point the packed weights are the block diagonal of the weights. -/
theorem wAt_A (c : Dev nD) (t : Fin cfg0.N) (h0 : t.val % 32 = 0) (h1 : ¬t.val % 32 = 31) :
    wAt m c t.val t.isLt = packW (iblk m c 1 t) := by
  funext y
  unfold wAt
  rw [outsAt0_A m c t h0 h1]
  frame_out

/-- After the first point the packed bias is the bias twice. -/
theorem bAt_A (c : Dev nD) (t : Fin cfg0.N) (h0 : t.val % 32 = 0) (h1 : ¬t.val % 32 = 31) :
    bAt m c t.val t.isLt = packB (iblk m c 2 t) := by
  funext y
  unfold bAt
  rw [outsAt0_A m c t h0 h1]
  frame_out

/-- A load of a whole buffer reads what the stores before left. -/
theorem load_whole {sig : RefSig} {κ : Kind} {sp : Space} {s : Shape} {e : EltTy} (v : View sig κ sp s e)
    (L : List (View.Piece (Elt Ideal) s e)) (off : Fin s.rank → ℕ) (inb : ∀ a, off a + s.size a ≤ s.size a)
    (h : ∀ a, off a = 0) : v.readCov L (Rect.unit off s.size inb).toLoadRect = View.canon L := by
  rw [View.readCov_eq_canon']
  refine funext fun z => congrArg (View.canon L) (funext fun a => Fin.ext ?_)
  show off a + 1 * (z a).val = (z a).val
  rw [h a]; omega

/-- The stored activations of the first point. -/
theorem out3_A (c : Dev nD) (t : Fin cfg0.N) (h0 : t.val % 32 = 0) (h1 : ¬t.val % 32 = 31) :
    (outsAt0 m c t.val t.isLt).1 = k0_pay11 (iblk m c 0 t) (packW (iblk m c 1 t)) (biasRow (packB (iblk m c 2 t))) := by
  funext y
  rw [outsAt0_A m c t h0 h1]
  frame_out
  exact congrFun (congrArg₂ (k0_pay11 (iblk m c 0 t))
    (load_whole (View.whole cc0_scratch1) _ ![0, 0] inb_S512x128_S512x128_0_0 (by decide))
    (View.readCov_eq_canon' (View.whole cc0_scratch2) _ _)) y

/-- The first point's accumulator: the nine stores over the zero slabs. -/
theorem accAt_A (c : Dev nD) (t : Fin cfg0.N) (h0 : t.val % 32 = 0) (h1 : ¬t.val % 32 = 31) (y : S9x8x128.Idx) :
    accAt m c t.val t.isLt y
      = added (iblk m c 0 t) (packW (iblk m c 1 t)) (biasRow (packB (iblk m c 2 t))) (k0_pay4 (F := Ideal)) y := by
  unfold accAt
  rw [outsAt0_A m c t h0 h1]
  frame_out
  simp (disch := decide) only [↓ View.readCov_skip, ↓ View.readCov_cons_toLoadRect, ↓ View.readCov_fill]
  refine (pieces_apply (iblk m c 0 t) _ _ (k0_pay4 (F := Ideal)) [_] y).trans ?_
  exact congrFun (congrArg₂ (fun w b => added (iblk m c 0 t) w b (k0_pay4 (F := Ideal)))
    (load_whole (View.whole cc0_scratch1) _ ![0, 0] inb_S512x128_S512x128_0_0 (by decide))
    (View.readCov_eq_canon' (View.whole cc0_scratch2) _ _)) y

/-! ## The other points -/

/-- A later point keeps the packed weights. -/
theorem wAt_B (c : Dev nD) (t : Fin cfg0.N) (h0 : ¬t.val % 32 = 0) :
    wAt m c t.val t.isLt = wAt m c (t.val - 1) (pred_lt t) := by
  unfold wAt
  by_cases h1 : t.val % 32 = 31
  · rw [outsAt0_C m c t h0 h1]; rfl
  · rw [outsAt0_B m c t h0 h1]; rfl

/-- A later point keeps the packed bias. -/
theorem bAt_B (c : Dev nD) (t : Fin cfg0.N) (h0 : ¬t.val % 32 = 0) :
    bAt m c t.val t.isLt = bAt m c (t.val - 1) (pred_lt t) := by
  unfold bAt
  by_cases h1 : t.val % 32 = 31
  · rw [outsAt0_C m c t h0 h1]; rfl
  · rw [outsAt0_B m c t h0 h1]; rfl

/-- A later point stores the activations of its rows, by the packed arrays that the point before left. -/
theorem out3_B (c : Dev nD) (t : Fin cfg0.N) (h0 : ¬t.val % 32 = 0) :
    (outsAt0 m c t.val t.isLt).1
      = k0_pay11 (iblk m c 0 t) (wAt m c (t.val - 1) (pred_lt t)) (biasRow (bAt m c (t.val - 1) (pred_lt t))) := by
  funext y
  by_cases h1 : t.val % 32 = 31
  · rw [outsAt0_C m c t h0 h1]
    frame_out
    simp only [read_unread_whole]
    rfl
  · rw [outsAt0_B m c t h0 h1]
    frame_out
    simp only [read_unread_whole]
    rfl

/-- A later point adds into the slabs that the point before left. -/
theorem accAt_B (c : Dev nD) (t : Fin cfg0.N) (h0 : ¬t.val % 32 = 0) :
    accAt m c t.val t.isLt
      = added (iblk m c 0 t) (wAt m c (t.val - 1) (pred_lt t)) (biasRow (bAt m c (t.val - 1) (pred_lt t)))
          (accAt m c (t.val - 1) (pred_lt t)) := by
  funext y
  unfold accAt
  by_cases h1 : t.val % 32 = 31
  · rw [outsAt0_C m c t h0 h1]
    frame_open
    simp (disch := decide) only [↓ View.readCov_skip, ↓ View.readCov_cons_toLoadRect, ↓ View.readCov_fill]
    frame_out
    simp only [read_unread_whole]
    exact pieces_apply (iblk m c 0 t) _ _ _ [] y
  · rw [outsAt0_B m c t h0 h1]
    frame_open
    simp (disch := decide) only [↓ View.readCov_skip, ↓ View.readCov_cons_toLoadRect, ↓ View.readCov_fill]
    frame_out
    simp only [read_unread_whole]
    exact pieces_apply (iblk m c 0 t) _ _ _ [] y

/-- The last point stores the histogram of the accumulator it leaves. -/
theorem out4_C (c : Dev nD) (t : Fin cfg0.N) (h0 : ¬t.val % 32 = 0) (h1 : t.val % 32 = 31) :
    (outsAt0 m c t.val t.isLt).2.1 = k0_pay3 (accAt m c t.val t.isLt) := by
  rw [accAt_B m c t h0]
  funext y
  rw [outsAt0_C m c t h0 h1]
  frame_open
  simp (disch := decide) only [↓ View.readCov_skip, ↓ View.readCov_cons_toLoadRect, ↓ View.readCov_fill]
  frame_out
  simp only [read_unread_whole]
  refine congrFun (congrArg k0_pay3 ?_) y
  refine (load_whole (View.whole cc0_scratch0) _ ![0, 0, 0] inb_S9x8x128_S9x8x128_0_0_0 (by decide)).trans ?_
  exact funext fun z => pieces_apply (iblk m c 0 t) _ _ _ [] z

end Cert.KernelIdeal.Work
-- ==== Proof.Spec.lean ====
/- The function that both programs compute, in plain real terms: the activations of every sample and the soft
   histogram of each output column. -/
module

public import proofs.«01_k».proof.Proof.Scalar

@[expose] public section

noncomputable section

open Idealize.ShloMosaic

namespace Cert.Hist

variable (X : Fin 131072 → Fin 256 → EReal) (W : Fin 256 → Fin 64 → EReal) (B : Fin 64 → EReal)

/-- The linear layer of sample `n` at column `d`. -/
def lin (n : Fin 131072) (d : Fin 64) : EReal := (∑ k : Fin 256, X n k * W k d) + B d

/-- The hyperbolic tangent of half of the linear layer. -/
def half (n : Fin 131072) (d : Fin 64) : ℝ := th (((1 / 2 : ℝ) : EReal) * lin X W B n d)

/-- The activation, that is the logistic function of the linear layer. -/
def act (n : Fin 131072) (d : Fin 64) : ℝ := 1 / 2 * half X W B n d + 1 / 2

/-- The tangent of sample `n` at bin edge `k`. -/
def edge (k : ℕ) (n : Fin 131072) (d : Fin 64) : ℝ := Real.tanh (50 * half X W B n d + 50 - 25 / 2 * (k : ℝ))

/-- The tangents at bin edge `k`, summed over the samples. -/
def edgeSum (k : ℕ) (d : Fin 64) : ℝ := ∑ n : Fin 131072, edge X W B k n d

/-- The mean weight that column `d` puts into bin `k`. -/
def hist (d : Fin 64) (k : Fin 8) : ℝ := (edgeSum X W B k.val d - edgeSum X W B (1 + k.val) d) * (1 / 262144)

/-- The share of bin `k` in the histogram of column `d`, the total kept away from zero. -/
def share (d : Fin 64) (k : Fin 8) : EReal :=
  Ideal.div ((hist X W B d k : ℝ) : EReal)
    (max ((∑ k' : Fin 8, hist X W B d k' : ℝ) : EReal) (Ideal.ofBits .f32 0x358637BD#32))

end Cert.Hist
-- ==== Proof.Blocks.lean ====
/- The blocks that a grid point reads, in terms of the arguments, and the point's tangents in terms of the samples. -/
module

public import proofs.«01_k».proof.Proof.Outs
public import proofs.«01_k».proof.Proof.Spec

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

variable (m : (ℓ : Loc nD τ sig) → Buf (Elt Ideal) ℓ)

/-- The samples. -/
def argX (c : Dev nD) (n : Fin 131072) (k : Fin 256) : EReal := m ((c.tc : Thread nD τ).loc main_arg0) (ix2 n k)
/-- The weights. -/
def argW (c : Dev nD) (k : Fin 256) (d : Fin 64) : EReal := m ((c.tc : Thread nD τ).loc main_arg1) (ix2 k d)
/-- The bias. -/
def argB (c : Dev nD) (d : Fin 64) : EReal := m ((c.tc : Thread nD τ).loc main_arg2) (ix1 d)

/-- Which block each window reads or writes at a grid point. -/
theorem idx : ∀ t : Fin cfg0.N, win0_0.index t = ![t.val, 0] ∧ win0_1.index t = ![0, 0] ∧ win0_2.index t = ![0, 0]
    ∧ win0_3.index t = ![t.val, 0] ∧ win0_4.index t = ![0, 0] := by decide +kernel

/-- The grid has 32 points. -/
theorem lt32 (t : Fin cfg0.N) : t.val < 32 := t.isLt

/-- The sample that stands in row `r` of the block of point `t`, in the half that lane `l` reads. -/
def sample (t : Fin 32) (r : Fin 2048) (l : Fin 128) : Fin 131072 := ⟨2 * (2048 * t.val + r.val) + l.val / 64, by omega⟩

/-- Two samples side by side in a row. -/
theorem pairs_apply (v : Vec Ideal S131072x256 .f32) (r : Fin 65536) (j : Fin 512) :
    shapeCast S65536x512 v shapeCasts_S131072x256_S65536x512 (ix2 r j)
      = v (ix2 ⟨r.val * 2 + j.val / 256, by omega⟩ ⟨j.val % 256, by omega⟩) := by
  pointwise

/-- The array of samples that the grid reads: two samples in a row. -/
theorem V_v0_apply (c : Dev nD) (r : Fin 65536) (j : Fin 512) :
    V m c main_v0 (ix2 r j) = argX m c ⟨r.val * 2 + j.val / 256, by omega⟩ ⟨j.val % 256, by omega⟩ :=
  pairs_apply (m ((c.tc : Thread nD τ).loc main_arg0)) r j

/-- A vector copied into eight rows. -/
theorem rows_apply (v : Vec Ideal S64 .f32) (s : Fin 8) (d : Fin 64) :
    broadcastInDim S8x64 ![0, 1] bcast_S1x64_S8x64_0_1 (broadcastInDim S1x64 ![1] bcast_S64_S1x64_1 v) (ix2 s d)
      = v (ix1 d) := by
  pointwise

/-- The array of the bias that the grid reads: each of its eight rows is the bias. -/
theorem V_v2_apply (c : Dev nD) (s : Fin 8) (d : Fin 64) : V m c main_v2 (ix2 s d) = argB m c d :=
  rows_apply (m ((c.tc : Thread nD τ).loc main_arg2)) s d

/-- The block of samples: two samples side by side in a row. -/
theorem iblk0_apply (c : Dev nD) (t : Fin cfg0.N) (r : Fin 2048) (j : Fin 512) :
    iblk m c 0 t (ix2 r j)
      = argX m c ⟨2 * (2048 * t.val + r.val) + j.val / 256, by have := lt32 t; omega⟩ ⟨j.val % 256, by omega⟩ := by
  have e : (win0_0.blk t).view.emb (ix2 r j)
      = (ix2 ⟨2048 * t.val + r.val, by have := lt32 t; omega⟩ j : S65536x512.Idx) := by blk_ext [(idx t).1]
  show V m c main_v0 ((win0_0.blk t).view.emb (ix2 r j)) = _
  rw [e, V_v0_apply]
  exact congrArg (fun n => argX m c n _) (Fin.ext (by
    show (2048 * t.val + r.val) * 2 + j.val / 256 = 2 * (2048 * t.val + r.val) + j.val / 256; omega))

/-- The block of weights is the weights. -/
theorem iblk1_apply (c : Dev nD) (t : Fin cfg0.N) (k : Fin 256) (d : Fin 64) :
    iblk m c 1 t (ix2 k d) = argW m c k d := by
  unfold argW
  blk_ext [iblk, V, idx t]

/-- Every row of the block of the bias is the bias. -/
theorem iblk2_apply (c : Dev nD) (t : Fin cfg0.N) (s : Fin 8) (d : Fin 64) :
    iblk m c 2 t (ix2 s d) = argB m c d := by
  have e : (win0_2.blk t).view.emb (ix2 s d) = (ix2 s d : S8x64.Idx) := by blk_ext [(idx t).2.2.1]
  show V m c main_v2 ((win0_2.blk t).view.emb (ix2 s d)) = _
  rw [e, V_v2_apply]

/-- A sum over the two halves of a row. -/
theorem sum_halves (f : Fin 512 → EReal) :
    ∑ j : Fin 512, f j = (∑ k : Fin 256, f ⟨k.val, by omega⟩) + ∑ k : Fin 256, f ⟨256 + k.val, by omega⟩ := by
  rw [Fin.sum_univ_add (a := 256) (b := 256) f]
  rfl

/-- What the packed product computes in a row at a lane: the linear layer of the lane's half at the lane's column. -/
theorem packed_lin (x : Vec Ideal S2048x512 .f32) (w : Vec Ideal S256x64 .f32) (r : Fin 2048) (l : Fin 128) :
    ∑ j : Fin 512, x (ix2 r j) * packW w (ix2 j l)
      = ∑ k : Fin 256, x (ix2 r ⟨l.val / 64 * 256 + k.val, by omega⟩) * w (ix2 k ⟨l.val % 64, by omega⟩) := by
  rw [sum_halves]
  by_cases hl : l.val < 64
  · rw [Finset.sum_eq_zero (s := Finset.univ) (f := fun k : Fin 256 => x (ix2 r ⟨256 + k.val, _⟩) * packW w (ix2 ⟨256 + k.val, _⟩ l))
      (fun k _ => by rw [packW_zero w _ l (.inr ⟨Nat.le_add_right _ _, hl⟩), mul_zero]), add_zero]
    refine Finset.sum_congr rfl fun k _ => ?_
    rw [packW_left w _ l k.isLt hl]
    congr 1 <;> blk_ext
  · rw [Finset.sum_eq_zero (s := Finset.univ) (f := fun k : Fin 256 => x (ix2 r ⟨k.val, _⟩) * packW w (ix2 ⟨k.val, _⟩ l))
      (fun k _ => by rw [packW_zero w _ l (.inl ⟨k.isLt, by omega⟩), mul_zero]), zero_add]
    refine Finset.sum_congr rfl fun k _ => ?_
    rw [packW_right w _ l (Nat.le_add_right _ _) (by omega)]
    congr 1 <;> blk_ext

/-- A grid point's tangent in a row at a lane is the tangent of the row's sample in the lane's half, at the lane's
    column. -/
theorem tau_point (c : Dev nD) (t t₁ t₂ : Fin cfg0.N) (r : Fin 2048) (l : Fin 128) :
    tau (iblk m c 0 t) (packW (iblk m c 1 t₁)) (biasRow (packB (iblk m c 2 t₂))) r l
      = half (argX m c) (argW m c) (argB m c) (sample t r l) ⟨l.val % 64, by omega⟩ := by
  unfold tau half lin
  rw [packed_lin, biasRow_apply, iblk2_apply]
  refine congrArg (fun z => th (_ * (z + _))) (Finset.sum_congr rfl fun k _ => ?_)
  rw [iblk0_apply, iblk1_apply]
  refine congrArg₂ (fun n j => argX m c n j * _) (Fin.ext ?_) (Fin.ext ?_)
  · show _ + (l.val / 64 * 256 + k.val) / 256 = _ + l.val / 64
    omega
  · show (l.val / 64 * 256 + k.val) % 256 = k.val
    omega

end Cert.KernelIdeal.Work
-- ==== Proof.Acc.lean ====
/- The accumulator after each grid point, as a sum over the points so far, and its total over the rows and the two
   halves of the lanes as a sum over all samples. -/
module

public import proofs.«01_k».proof.Proof.Blocks

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

variable (m : (ℓ : Loc nD τ sig) → Buf (Elt Ideal) ℓ)

/-- The first grid point. -/
abbrev t₀ : Fin cfg0.N := ⟨0, by decide⟩

/-- After every point the packed weights and the packed bias are those of the first point. -/
theorem packed_all (c : Dev nD) : ∀ (n : ℕ) (h : n < cfg0.N),
    wAt m c n h = packW (iblk m c 1 t₀) ∧ bAt m c n h = packB (iblk m c 2 t₀)
  | 0, h => ⟨wAt_A m c ⟨0, h⟩ rfl (by show ¬0 % 32 = 31; decide), bAt_A m c ⟨0, h⟩ rfl (by show ¬0 % 32 = 31; decide)⟩
  | n + 1, h => by
    have hn : n + 1 < 32 := h
    have h0 : ¬(n + 1) % 32 = 0 := by omega
    have ih := packed_all c n (Nat.lt_of_succ_lt h)
    exact ⟨(wAt_B m c ⟨n + 1, h⟩ h0).trans ih.1, (bAt_B m c ⟨n + 1, h⟩ h0).trans ih.2⟩

/-- What point `u` adds to place `y` of the accumulator (nothing past the last point). -/
def part (c : Dev nD) (y : S9x8x128.Idx) (u : ℕ) : ℝ :=
  if h : u < 32 then ∑ q : Fin 256, edge (argX m c) (argW m c) (argB m c) (y 0).val
    (sample ⟨u, h⟩ (row q (y 1)) (y 2)) ⟨(y 2).val % 64, by omega⟩ else 0

/-- One point's addition, over what stood in the accumulator. -/
theorem added_point (c : Dev nD) (t t₁ t₂ : Fin cfg0.N) (a : Vec Ideal S9x8x128 .f32) (y : S9x8x128.Idx) :
    added (iblk m c 0 t) (packW (iblk m c 1 t₁)) (biasRow (packB (iblk m c 2 t₂))) a y
      = a y + ((part m c y t.val : ℝ) : EReal) := by
  unfold added part
  rw [dif_pos (lt32 t)]
  refine congrArg (fun z : ℝ => a y + (z : EReal)) (Finset.sum_congr rfl fun q _ => ?_)
  exact congrArg (fun z : ℝ => Real.tanh (50 * z + 50 - 25 / 2 * ((y 0).val : ℝ)))
    (tau_point m c t t₁ t₂ (row q (y 1)) (y 2))

/-- The accumulator after point `n`: what the points up to `n` added. -/
theorem accAt_eq (c : Dev nD) (y : S9x8x128.Idx) : ∀ (n : ℕ) (h : n < cfg0.N),
    accAt m c n h y = ((∑ u ∈ Finset.range (n + 1), part m c y u : ℝ) : EReal)
  | 0, h => by
    refine (accAt_A m c ⟨0, h⟩ rfl (by show ¬0 % 32 = 31; decide) y).trans ?_
    rw [added_point, Finset.sum_range_one]
    have hz : k0_pay4 (F := Ideal) y = 0 := by
      unfold k0_pay4
      pointwise
    rw [hz, zero_add]
  | n + 1, h => by
    have hn : n + 1 < 32 := h
    have h0 : ¬(n + 1) % 32 = 0 := by omega
    have hw := packed_all m c n (Nat.lt_of_succ_lt h)
    have ih := accAt_eq c y n (Nat.lt_of_succ_lt h)
    refine (congrFun (accAt_B m c ⟨n + 1, h⟩ h0) y).trans ?_
    show added _ (wAt m c n _) (biasRow (bAt m c n _)) (accAt m c n _) y = _
    rw [hw.1, hw.2, added_point, ih, Finset.sum_range_succ _ (n + 1), EReal.coe_add]

/-- The accumulator after the last point. -/
theorem acc_last (c : Dev nD) (h : 31 < cfg0.N) (k : Fin 9) (s : Fin 8) (l : Fin 128) :
    accAt m c 31 h (ix3 k s l)
      = ((∑ t : Fin 32, ∑ q : Fin 256, edge (argX m c) (argW m c) (argB m c) k.val (sample t (row q s) l)
          ⟨l.val % 64, by omega⟩ : ℝ) : EReal) := by
  rw [accAt_eq, Finset.sum_range]
  refine congrArg (fun z : ℝ => (z : EReal)) (Finset.sum_congr rfl fun t _ => ?_)
  unfold part
  rw [dif_pos t.isLt]
  rfl

/-- The samples, counted by grid point, group of eight rows, row of the group, and half of the row. -/
theorem sum_samples (f : Fin 131072 → ℝ) (d : Fin 64) :
    (∑ s : Fin 8, ∑ t : Fin 32, ∑ q : Fin 256, f (sample t (row q s) ⟨d.val, by omega⟩))
      + (∑ s : Fin 8, ∑ t : Fin 32, ∑ q : Fin 256, f (sample t (row q s) ⟨64 + d.val, by omega⟩))
      = ∑ n : Fin 131072, f n := by
  let e : (Fin 2 × Fin 8) × (Fin 32 × Fin 256) ≃ Fin 131072 :=
    { toFun := fun p => ⟨2 * (2048 * p.2.1.val + (p.2.2.val * 8 + p.1.2.val)) + p.1.1.val, by omega⟩
      invFun := fun n => ((⟨n.val % 2, by omega⟩, ⟨n.val / 2 % 8, by omega⟩), (⟨n.val / 4096, by omega⟩, ⟨n.val / 16 % 256, by omega⟩))
      left_inv := fun p => by
        refine Prod.ext (Prod.ext (Fin.ext ?_) (Fin.ext ?_)) (Prod.ext (Fin.ext ?_) (Fin.ext ?_)) <;> dsimp only <;> omega
      right_inv := fun n => Fin.ext (by dsimp only; omega) }
  rw [← Equiv.sum_comp e f, Fintype.sum_prod_type, Fintype.sum_prod_type, Fin.sum_univ_two]
  refine congrArg₂ (· + ·) ?_ ?_
  all_goals
    refine Finset.sum_congr rfl fun s _ => ?_
    rw [Fintype.sum_prod_type]
    refine Finset.sum_congr rfl fun t _ => Finset.sum_congr rfl fun q _ => congrArg f (Fin.ext ?_)
  · show 2 * (2048 * t.val + (q.val * 8 + s.val)) + d.val / 64 = 2 * (2048 * t.val + (q.val * 8 + s.val)) + 0
    omega
  · show 2 * (2048 * t.val + (q.val * 8 + s.val)) + (64 + d.val) / 64 = 2 * (2048 * t.val + (q.val * 8 + s.val)) + 1
    omega

/-- The last accumulator's row of edge `k`, summed over its eight sublanes and the column's two lanes, is the sum of the
    tangents at that edge over all samples. -/
theorem acc_total (c : Dev nD) (h : 31 < cfg0.N) (k : Fin 9) (d : Fin 64) :
    (∑ s : Fin 8, accAt m c 31 h (ix3 k s ⟨d.val, by omega⟩)) + (∑ s : Fin 8, accAt m c 31 h (ix3 k s ⟨64 + d.val, by omega⟩))
      = ((edgeSum (argX m c) (argW m c) (argB m c) k.val d : ℝ) : EReal) := by
  simp only [acc_last]
  rw [← coe_sum, ← coe_sum, ← EReal.coe_add]
  refine congrArg (fun z : ℝ => (z : EReal)) ?_
  have e₁ : (⟨d.val % 64, by omega⟩ : Fin 64) = d := Fin.ext (by show d.val % 64 = d.val; omega)
  have e₂ : (⟨(64 + d.val) % 64, by omega⟩ : Fin 64) = d := Fin.ext (by show (64 + d.val) % 64 = d.val; omega)
  rw [e₁, e₂]
  exact sum_samples (fun n => edge (argX m c) (argW m c) (argB m c) k.val n d) d

end Cert.KernelIdeal.Work
-- ==== Proof.Arrays.lean ====
/- What the two result arrays of the grid hold after the run: the activations, two samples in a row, and the shares of
   the bins. -/
module

public import proofs.«01_k».proof.Proof.Acc

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

variable (m : (ℓ : Loc nD τ sig) → Buf (Elt Ideal) ℓ)

/-- The activations as the grid lays them out: row `r` holds the samples `2 r` and `2 r + 1`. -/
def actRows (c : Dev nD) : Vec Ideal S65536x128 .f32 := fun y =>
  ((act (argX m c) (argW m c) (argB m c) ⟨2 * (y 0).val + (y 1).val / 64, by
      have h0 : (y 0).val < 65536 := (y 0).isLt
      have h1 : (y 1).val < 128 := (y 1).isLt
      omega⟩ ⟨(y 1).val % 64, by omega⟩ : ℝ) : EReal)

/-- The shares of the bins, one row per column of the layer. -/
def shares (c : Dev nD) : Vec Ideal S64x8 .f32 := fun y => share (argX m c) (argW m c) (argB m c) (y 0) (y 1)

/-- The block of activations that a point stores. -/
theorem out3_apply (c : Dev nD) (t : Fin cfg0.N) (y : S2048x128.Idx) :
    (outsAt0 m c t.val t.isLt).1 y
      = ((act (argX m c) (argW m c) (argB m c) (sample t (y 0) (y 1)) ⟨(y 1).val % 64, by omega⟩ : ℝ) : EReal) := by
  have key : ∀ t₁ t₂ : Fin cfg0.N, k0_pay11 (iblk m c 0 t) (packW (iblk m c 1 t₁)) (biasRow (packB (iblk m c 2 t₂))) y
      = ((act (argX m c) (argW m c) (argB m c) (sample t (y 0) (y 1)) ⟨(y 1).val % 64, by omega⟩ : ℝ) : EReal) := by
    intro t₁ t₂
    rw [pay11_apply]
    exact congrArg (fun z : ℝ => ((1 / 2 * z + 1 / 2 : ℝ) : EReal)) (tau_point m c t t₁ t₂ (y 0) (y 1))
  have ht := lt32 t
  by_cases h0 : t.val % 32 = 0
  · rw [out3_A m c t h0 (by omega)]
    exact key t t
  · have hp := packed_all m c (t.val - 1) (pred_lt t)
    rw [out3_B m c t h0, hp.1, hp.2]
    exact key _ _

/-- The grid's first result array after the run. -/
theorem arr3 (c : Dev nD) : (dats m 0 c).arrAt 3 (cfgs 0).N = actRows m c := by
  refine (dats m 0 c).arrAt_eq_of_covers 3 _ (by decide +kernel) fun t hf y => ?_
  blk_simp
  rw [after0_3]
  refine (out3_apply m c t y).trans ?_
  have ht := lt32 t
  refine congrArg₂ (fun n d => ((act (argX m c) (argW m c) (argB m c) n d : ℝ) : EReal)) (Fin.ext ?_) (Fin.ext ?_)
  · show 2 * (2048 * t.val + (y 0).val) + (y 1).val / 64
      = 2 * ((win0_3.blk t).view.emb y 0).val + ((win0_3.blk t).view.emb y 1).val / 64
    blk_simp [(idx t).2.2.2.1]
    omega
  · show (y 1).val % 64 = ((win0_3.blk t).view.emb y 1).val % 64
    blk_simp [(idx t).2.2.2.1]

/-- The histogram that the last point computes from its accumulator. -/
theorem pay3_apply (c : Dev nD) (h : 31 < cfg0.N) (d : Fin 64) (k : Fin 8) :
    k0_pay3 (accAt m c 31 h) (ix2 d k) = share (argX m c) (argW m c) (argB m c) d k := by
  have e : ∀ k' : Fin 8,
      (((∑ s : Fin 8, accAt m c 31 h (ix3 ⟨k'.val, by omega⟩ s ⟨d.val, by omega⟩))
          + (∑ s : Fin 8, accAt m c 31 h (ix3 ⟨k'.val, by omega⟩ s ⟨64 + d.val, by omega⟩)))
        - ((∑ s : Fin 8, accAt m c 31 h (ix3 ⟨1 + k'.val, by omega⟩ s ⟨d.val, by omega⟩))
          + (∑ s : Fin 8, accAt m c 31 h (ix3 ⟨1 + k'.val, by omega⟩ s ⟨64 + d.val, by omega⟩))))
        * Ideal.ofBits .f32 0x36800000#32
      = ((hist (argX m c) (argW m c) (argB m c) d k' : ℝ) : EReal) := by
    intro k'
    rw [acc_total, acc_total, lit_scale, ← EReal.coe_sub, ← EReal.coe_mul]
    rfl
  generalize accAt m c 31 h = a at e ⊢
  unfold k0_pay3
  pointwise
  rw [share, coe_sum]
  exact congrArg₂ Ideal.div (e k) (congrArg (max · _) (Finset.sum_congr rfl fun k' _ => e k'))

/-- The last grid point. -/
abbrev tLast : Fin cfg0.N := ⟨31, by decide⟩

/-- The grid's second result array after the run. -/
theorem arr4 (c : Dev nD) : (dats m 0 c).arrAt 4 (cfgs 0).N = shares m c := by
  refine (dats m 0 c).arrAt_eq_of_after_last 4 tLast (by decide +kernel) _ fun j => ?_
  blk_simp
  rw [after0_4, out4_C m c tLast (by decide) (by decide)]
  rw [ValueIdx.eq_ix2 j]
  exact pay3_apply m c _ _ _

end Cert.KernelIdeal.Work
-- ==== Proof.KernelValue.lean ====
/- The kernel's run: every execution ends with the shares of the bins and the activations in the two results, and the
   arguments as they were. -/
module

public import proofs.«01_k».proof.Proof.Arrays

@[expose] public section

set_option maxRecDepth 16384

noncomputable section

open Idealize.ShloMosaic Idealize.ShloMosaic.TcCoe Idealize.SL.Sem
open Cert.Hist

namespace Cert.KernelIdeal.Work

open Cert.KernelIdeal Cert.KernelIdeal.Gen

variable (m : (ℓ : Loc nD τ sig) → Buf (Elt Ideal) ℓ) (ρ : Dev nD → PrngReg)

/-- The first result: the shares of the bins, column by column. -/
def result1 (c : Dev nD) : Vec Ideal S512 .f32 := fun i =>
  share (argX m c) (argW m c) (argB m c) ⟨(i 0).val / 8, by have h : (i 0).val < 512 := (i 0).isLt; omega⟩
    ⟨(i 0).val % 8, by omega⟩

/-- The second result: the activations. -/
def result2 (c : Dev nD) : Vec Ideal S131072x64 .f32 := fun i =>
  ((act (argX m c) (argW m c) (argB m c) (i 0) (i 1) : ℝ) : EReal)

/-- The shares read as one row. -/
theorem flat_shares (c : Dev nD) : shapeCast S512 (shares m c) shapeCasts_S64x8_S512 = result1 m c := by
  funext i
  pointwise
  rfl

/-- The rows of activations read sample by sample. -/
theorem flat_acts (c : Dev nD) : shapeCast S131072x64 (actRows m c) shapeCasts_S65536x128_S131072x64 = result2 m c := by
  funext i
  pointwise
  have h0 : (i 0).val < 131072 := (i 0).isLt
  have h1 : (i 1).val < 64 := (i 1).isLt
  unfold actRows result2
  refine congrArg₂ (fun n d => ((act (argX m c) (argW m c) (argB m c) n d : ℝ) : EReal)) (Fin.ext ?_) (Fin.ext ?_)
  · show 2 * ((i 0).val / 2) + ((i 0).val % 2 * 64 + (i 1).val) / 64 = (i 0).val
    omega
  · show ((i 0).val % 2 * 64 + (i 1).val) % 64 = (i 1).val
    omega

/-- The windows' arrays are different buffers. -/
theorem arrays_inj : Function.Injective (Pipeline.arrRef (cfgs 0).spec) := by decide

/-- What the first result's buffer holds after the host's last lines. -/
theorem tail_v4 (c : Dev nD) :
    Pipeline.afterTail₀ cfgs (dats m) 0 (V0 m) [hostOps1] c main_v4 = result1 m c := by
  rw [← flat_shares, ← arr4]
  exact congrArg (fun v => shapeCast S512 v shapeCasts_S64x8_S512)
    (Pipeline.withArrays_arr (cfgs 0).spec arrays_inj c (V0 m c) (fun w => (dats m 0 c).arrAt w (cfgs 0).N) 4)

/-- What the second result's buffer holds after the host's last lines. -/
theorem tail_v5 (c : Dev nD) :
    Pipeline.afterTail₀ cfgs (dats m) 0 (V0 m) [hostOps1] c main_v5 = result2 m c := by
  rw [← flat_acts, ← arr3]
  exact congrArg (fun v => shapeCast S131072x64 v shapeCasts_S65536x128_S131072x64)
    (Pipeline.withArrays_arr (cfgs 0).spec arrays_inj c (V0 m c) (fun w => (dats m 0 c).arrAt w (cfgs 0).N) 3)

/-- The run with its results. -/
theorem run : θ_run defs (onTc (τ := τ) (main (F := Ideal))) ⟨m, fun _ => 0, ρ⟩ (fun r => ∀ c : Dev nD,
      r.2.mem ((c.tc : Thread nD τ).loc main_v4) = result1 m c
      ∧ r.2.mem ((c.tc : Thread nD τ).loc main_v5) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v4 (Pipeline.mem_restRefs_of main_v4 (by decide) (by decide))).trans (tail_v4 m c),
      ((h.1 c).2 main_v5 (Pipeline.mem_restRefs_of main_v5 (by decide) (by decide))).trans (tail_v5 m c), h.2 c⟩)
    (θ_run_and (run_main m ρ) (unchanged m ρ))

end Cert.KernelIdeal.Work
-- ==== Proof.RefValue.lean ====
/- What the reference computes, stage by stage: the activations, the two sigmoids of a bin, their difference, its mean
   over the samples, and the share of the bin. -/
module

public import proofs.«01_k».proof.Proof.Gen.ReferenceIdeal.Read
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Hist

namespace Cert.ReferenceIdeal.Work

open Cert.ReferenceIdeal Cert.ReferenceIdeal.Gen Cert.ReferenceIdeal.Read

variable (x0 : Vec Ideal S131072x256 .f32) (x1 : Vec Ideal S256x64 .f32) (x2 : Vec Ideal S64 .f32)

/-- The samples, by sample and feature. -/
abbrev argX (n : Fin 131072) (k : Fin 256) : EReal := x0 (ix2 n k)
/-- The weights, by feature and column. -/
abbrev argW (k : Fin 256) (d : Fin 64) : EReal := x1 (ix2 k d)
/-- The bias, by column. -/
abbrev argB (d : Fin 64) : EReal := x2 (ix1 d)

/-- The sigmoid as the reference spells it is the logistic function. -/
theorem sigmoid (z : Ideal .f32) :
    FloatOps.hostDivf (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [lit_one]
  rfl

/-- The sigmoid at a real number. -/
theorem sigmoid_real (r : ℝ) : Ideal.logistic ((r : ℝ) : EReal) = ((1 / 2 * Real.tanh (1 / 2 * r) + 1 / 2 : ℝ) : EReal) := by
  rw [logistic_eq, ← EReal.coe_mul, th_coe]

/-- The linear layer. -/
theorem lin_apply (n : Fin 131072) (d : Fin 64) :
    val_main_v3 (F := Ideal) x0 x1 x2 (ix2 n d) = lin (argX x0) (argW x1) (argB x2) n d := by
  rw [val_main_v3_apply, val_main_v0_apply, val_main_v2_apply, val_main_v1_apply]
  unfold lin
  refine congrArg₂ (· + ·) (Finset.sum_congr rfl fun k _ => congrArg₂ (· * ·) (congrArg x0 ?_) (congrArg x1 ?_))
    (congrArg x2 ?_) <;> blk_ext

/-- The activations. -/
theorem act_apply (n : Fin 131072) (d : Fin 64) :
    val_main_v9 (F := Ideal) x0 x1 x2 (ix2 n d) = ((act (argX x0) (argW x1) (argB x2) n d : ℝ) : EReal) := by
  rw [val_main_v9_apply, val_main_v8_apply, val_main_cst_0_apply, val_main_v7_apply, val_main_v6_apply,
    val_main_cst_apply, val_main_v5_apply, val_main_v4_apply, sigmoid, lin_apply, logistic_eq]
  rfl

/-- The centre of a bin. -/
theorem centre_apply (k : Fin 8) : val_main_v14 (F := Ideal) (ix1 k) = ((((k.val : ℝ) + 1 / 2) / 8 : ℝ) : EReal) := by
  rw [val_main_v14_apply, val_main_v13_apply, val_main_cst_2_apply, val_main_v12_apply, val_main_v11_apply,
    val_main_cst_1_apply]
  have e : val_main_v10 (F := Ideal) (ix1 k) = ((k.val : ℝ) : EReal) := by
    unfold val_main_v10
    pointwise
    have h : ∀ k : Fin 8, (BitVec.ofNat 32 k.val).toInt = (k.val : ℤ) := by decide
    show (((BitVec.ofNat 32 k.val).toInt : ℝ) : EReal) = _
    rw [h, Int.cast_natCast]
  rw [e]
  show Ideal.div (((k.val : ℝ) : EReal) + Ideal.ofBits .f32 0x3F000000#32) (Ideal.ofBits .f32 0x41000000#32) = _
  rw [lit_half, lit_eight, ← EReal.coe_add, Ideal.div_coe (by norm_num), ← EReal.coe_mul]
  congr 1
  ring

/-- The distance of an activation from the centre of a bin. -/
theorem dist_apply (n : Fin 131072) (d : Fin 64) (k : Fin 8) :
    val_main_v19 (F := Ideal) x0 x1 x2 (ix3 n d k)
      = ((act (argX x0) (argW x1) (argB x2) n d - ((k.val : ℝ) + 1 / 2) / 8 : ℝ) : EReal) := by
  rw [val_main_v19_apply, val_main_v17_apply, val_main_v15_apply, val_main_v18_apply, val_main_v16_apply, EReal.coe_sub,
    ← act_apply, ← centre_apply]
  refine congrArg₂ (· - ·) (congrArg (val_main_v9 (F := Ideal) x0 x1 x2) ?_) (congrArg (val_main_v14 (F := Ideal)) ?_) <;>
    blk_ext

/-- The sigmoid at the bin's lower edge. -/
theorem lower_apply (n : Fin 131072) (d : Fin 64) (k : Fin 8) :
    val_main_v29 (F := Ideal) x0 x1 x2 (ix3 n d k)
      = ((1 / 2 * edge (argX x0) (argW x1) (argB x2) k.val n d + 1 / 2 : ℝ) : EReal) := by
  rw [val_main_v29_apply, val_main_v28_apply, val_main_cst_6_apply, val_main_v27_apply, val_main_v26_apply,
    val_main_cst_5_apply, val_main_v25_apply, val_main_v24_apply, sigmoid, val_main_v23_apply, val_main_v22_apply,
    val_main_cst_4_apply, val_main_v21_apply, val_main_v20_apply, val_main_cst_3_apply, dist_apply]
  show Ideal.logistic ((((_ : ℝ) : EReal) + Ideal.ofBits .f32 0x3D800000#32) * Ideal.ofBits .f32 0x43480000#32) = _
  rw [lit_sixteenth, lit_sharp, ← EReal.coe_add, ← EReal.coe_mul, sigmoid_real]
  unfold edge act
  congr 4
  ring

/-- The sigmoid at the bin's upper edge. -/
theorem upper_apply (n : Fin 131072) (d : Fin 64) (k : Fin 8) :
    val_main_v39 (F := Ideal) x0 x1 x2 (ix3 n d k)
      = ((1 / 2 * edge (argX x0) (argW x1) (argB x2) (1 + k.val) n d + 1 / 2 : ℝ) : EReal) := by
  rw [val_main_v39_apply, val_main_v38_apply, val_main_cst_10_apply, val_main_v37_apply, val_main_v36_apply,
    val_main_cst_9_apply, val_main_v35_apply, val_main_v34_apply, sigmoid, val_main_v33_apply, val_main_v32_apply,
    val_main_cst_8_apply, val_main_v31_apply, val_main_v30_apply, val_main_cst_7_apply, dist_apply]
  show Ideal.logistic ((((_ : ℝ) : EReal) - Ideal.ofBits .f32 0x3D800000#32) * Ideal.ofBits .f32 0x43480000#32) = _
  rw [lit_sixteenth, lit_sharp, ← EReal.coe_sub, ← EReal.coe_mul, sigmoid_real]
  unfold edge act
  congr 4
  push_cast
  ring

/-- The mean weight of a bin. -/
theorem hist_apply (d : Fin 64) (k : Fin 8) :
    val_main_v43 (F := Ideal) x0 x1 x2 (ix2 d k) = ((hist (argX x0) (argW x1) (argB x2) d k : ℝ) : EReal) := by
  have e : ∀ n : Fin 131072, val_main_v40 (F := Ideal) x0 x1 x2 (idx_main_v41 (ix2 d k) n)
      = ((1 / 2 * (edge (argX x0) (argW x1) (argB x2) k.val n d
          - edge (argX x0) (argW x1) (argB x2) (1 + k.val) n d) : ℝ) : EReal) := by
    intro n
    have ei : idx_main_v41 (ix2 d k) n = ix3 n d k := by blk_ext
    rw [ei, val_main_v40_apply, lower_apply, upper_apply]
    refine (EReal.coe_sub _ _).symm.trans (congrArg _ ?_)
    ring
  rw [val_main_v43_apply, val_main_v42_apply, val_main_cst_12_apply, val_main_v41_apply, val_main_cst_11_apply]
  simp only [e]
  rw [← coe_sum, ← Finset.mul_sum, Finset.sum_sub_distrib]
  show Ideal.div (Ideal.ofBits .f32 0x00000000#32 + ((_ : ℝ) : EReal)) (Ideal.ofBits .f32 0x48000000#32) = _
  rw [lit_zero, lit_count, ← EReal.coe_add, Ideal.div_coe (by norm_num), ← EReal.coe_mul]
  have alg : ∀ a b : ℝ, (0 + 1 / 2 * (a - b)) * (1 / 131072) = (a - b) * (1 / 262144) := by
    intro a b
    ring
  exact congrArg _ (alg _ _)

/-- The first result before its reshape: the share of a bin. -/
theorem share_apply (d : Fin 64) (k : Fin 8) :
    val_main_v48 (F := Ideal) x0 x1 x2 (ix2 d k) = share (argX x0) (argW x1) (argB x2) d k := by
  have e : ∀ k' : Fin 8, val_main_v43 (F := Ideal) x0 x1 x2 (idx_main_v44 (ix1 d) k')
      = ((hist (argX x0) (argW x1) (argB x2) d k' : ℝ) : EReal) := by
    intro k'
    have ei : idx_main_v44 (ix1 d) k' = ix2 d k' := by blk_ext
    rw [ei, hist_apply]
  have ed : idx_main_v45 (idx_main_v47 (ix2 d k)) = ix1 d := by blk_ext
  rw [val_main_v48_apply, hist_apply, val_main_v47_apply, val_main_v46_apply, val_main_v45_apply, ed, val_main_v44_apply,
    val_main_call0_v1_apply, val_main_call0_v0_apply, val_main_cst_14_apply, val_main_cst_13_apply]
  simp only [e]
  rw [← coe_sum]
  show Ideal.div _ (max (Ideal.ofBits .f32 0x358637BD#32) (Ideal.ofBits .f32 0x00000000#32 + ((_ : ℝ) : EReal))) = _
  rw [lit_zero, ← EReal.coe_add, zero_add, max_comm]
  rfl

/-- The first result: the shares, column by column. -/
theorem out1_apply (i : S512.Idx) :
    val_main_v49 (F := Ideal) x0 x1 x2 i = share (argX x0) (argW x1) (argB x2)
      ⟨(i 0).val / 8, by have h : (i 0).val < 512 := (i 0).isLt; omega⟩ ⟨(i 0).val % 8, by omega⟩ := by
  rw [val_main_v49_apply, ← share_apply]
  exact congrArg (val_main_v48 (F := Ideal) x0 x1 x2) (by blk_ext)

/-- The second result: the activations. -/
theorem out2_apply (i : S131072x64.Idx) :
    val_main_v9 (F := Ideal) x0 x1 x2 i = ((act (argX x0) (argW x1) (argB x2) (i 0) (i 1) : ℝ) : EReal) := by
  refine Eq.trans ?_ (act_apply x0 x1 x2 (i 0) (i 1))
  exact congrArg (val_main_v9 (F := Ideal) x0 x1 x2) (ValueIdx.eq_ix2 i)

end Cert.ReferenceIdeal.Work
-- ==== Proof.Equation.lean ====
/- The equation: from memories that agree on the arguments, the kernel and the reference end with the same results. -/
module

public import proofs.«01_k».proof.Defs
public import proofs.«01_k».proof.Proof.KernelValue
public import proofs.«01_k».proof.Proof.RefValue

@[expose] public section

set_option maxRecDepth 16384

noncomputable section

open Idealize.ShloMosaic Idealize.ShloMosaic.TcCoe Idealize.SL.Sem
open Cert.Hist

namespace Cert.Equation

/-- The reference's run: its two results as the same functions of its arguments as the kernel's. -/
theorem reference_run (m' : (ℓ : Loc Cert.ReferenceIdeal.nD Cert.ReferenceIdeal.τ Cert.ReferenceIdeal.sig) → Buf (Elt Ideal) ℓ)
    (g' : Dev Cert.ReferenceIdeal.nD → PrngReg)
    (m : (ℓ : Loc Cert.KernelIdeal.nD Cert.KernelIdeal.τ Cert.KernelIdeal.sig) → Buf (Elt Ideal) ℓ)
    (agree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v49) = Cert.KernelIdeal.Work.result1 m c
      ∧ r.2.mem ((c.tc : Thread Cert.ReferenceIdeal.nD Cert.ReferenceIdeal.τ).loc Cert.ReferenceIdeal.main_v9) = Cert.KernelIdeal.Work.result2 m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run _ _ _).mono (fun r h c => ?_) (Cert.ReferenceIdeal.Value.run (F := Ideal) m' g')
  obtain ⟨h1, h2, ha⟩ := h c
  obtain ⟨e0, e1, e2, _⟩ := agree c
  refine ⟨h1.trans ?_, h2.trans ?_, ha⟩
  · rw [Cert.ReferenceIdeal.Read.val_main_v49_eq, e0, e1, e2]
    exact funext fun i => Cert.ReferenceIdeal.Work.out1_apply _ _ _ i
  · rw [e0, e1, e2]
    exact (Cert.ReferenceIdeal.Read.val_main_v9_eq (F := Ideal) _ _ _).trans
      (funext fun i => Cert.ReferenceIdeal.Work.out2_apply _ _ _ i)

/-- The claim of equal results. -/
theorem equal : Cert.algebraic_KernelIdeal_ReferenceIdeal (hKernelIdeal := Cert.KernelIdeal.Gen.facts)
    (hReferenceIdeal := Cert.ReferenceIdeal.Gen.facts) := fun m g m' g' _ agree =>
  ⟨Cert.KernelIdeal.Work.result1 m, Cert.KernelIdeal.Work.result2 m, Cert.KernelIdeal.Work.run m g,
    reference_run m' g' m agree⟩

end Cert.Equation
-- ==== Proof.lean ====
module

public import proofs.«01_k».proof.Defs
public import proofs.«01_k».proof.Proof.Gen.Kernel.Frame
public import proofs.«01_k».proof.Proof.Equation

@[expose] public section

noncomputable section

namespace Cert.Proof

open Idealize.ShloMosaic Idealize.SL.Sem

/-- The reference runs to the end and leaves its arguments unchanged. It has no semaphore. -/
theorem reference_quiet : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiet, trivial,
    Cert.Equation.equal⟩

end Cert.Proof

end
